-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S500x768 : Shape := ⟨2, ![500, 768]⟩
abbrev S4x8192x500 : Shape := ⟨3, ![4, 8192, 500]⟩
abbrev S4x8192x1 : Shape := ⟨3, ![4, 8192, 1]⟩
abbrev S1x1 : Shape := ⟨2, ![1, 1]⟩
abbrev S1x2048x768 : Shape := ⟨3, ![1, 2048, 768]⟩
abbrev S1x2048x500 : Shape := ⟨3, ![1, 2048, 500]⟩
abbrev S1x2048x1 : Shape := ⟨3, ![1, 2048, 1]⟩
abbrev S500 : Shape := ⟨1, ![500]⟩
abbrev S500x1 : Shape := ⟨2, ![500, 1]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩
abbrev S768x500 : Shape := ⟨2, ![768, 500]⟩
abbrev S1024x500 : Shape := ⟨2, ![1024, 500]⟩
abbrev S1x1024x500 : Shape := ⟨3, ![1, 1024, 500]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S4x8192x768, .f32⟩
  | .hbm, ⟨1, _⟩ => ⟨S500x768, .f32⟩
  | .hbm, ⟨2, _⟩ => ⟨S4x8192x768, .f32⟩
  | .hbm, ⟨3, _⟩ => ⟨S4x8192x500, .f32⟩
  | .hbm, ⟨4, _⟩ => ⟨S4x8192x1, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x768, .f32⟩
  | .local _ .vmem, ⟨1, _⟩ => ⟨S1x2048x768, .f32⟩
  | .local _ .vmem, ⟨2, _⟩ => ⟨S500x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x500, .f32⟩
  | .local _ .vmem, ⟨6, _⟩ => ⟨S1x2048x500, .f32⟩
  | .local _ .vmem, ⟨7, _⟩ => ⟨S1x2048x1, .i32⟩
  | .local _ .vmem, ⟨8, _⟩ => ⟨S1x2048x1, .i32⟩
  | .local _ .vmem, ⟨9, _⟩ => ⟨S1x1, .f32⟩
  | .local _ .vmem, ⟨10, _⟩ => ⟨S1x1, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32 : BitVec 32 := 3#32
  let v104 : BitVec 1 := Scalar.cmpi .eq arg0 c3_i32
  let arg1 : BitVec 32 := BitVec.ofNat 32 (i 1).val
  let c3_i32_47 : BitVec 32 := 3#32
  let v105 : BitVec 1 := Scalar.cmpi .eq arg1 c3_i32_47
  let v106 : BitVec 1 := Scalar.andi v104 v105
  let v107 : BitVec 32 := Scalar.extui v106
  let c0_i32_48 : BitVec 32 := 0#32
  let v108 : BitVec 1 := Scalar.cmpi .ne v107 c0_i32_48
  v108

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S500x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x8192x768 : Shape := ⟨3, ![4, 8192, 768]⟩
abbrev S500x768 : Shape := ⟨2, ![500, 768]⟩
abbrev S_ : Shape := ⟨0, ![]⟩
abbrev S500 : Shape := ⟨1, ![500]⟩
abbrev S500x1 : Shape := ⟨2, ![500, 1]⟩
abbrev S4x8192 : Shape := ⟨2, ![4, 8192]⟩
abbrev S4x8192x1 : Shape := ⟨3, ![4, 8192, 1]⟩
abbrev S4x8192x500 : Shape := ⟨3, ![4, 8192, 500]⟩
abbrev S4x8192x1x1 : Shape := ⟨4, ![4, 8192, 1, 1]⟩
abbrev S4x8192x1x768 : Shape := ⟨4, ![4, 8192, 1, 768]⟩
abbrev S4x8192x1x1x768 : Shape := ⟨5, ![4, 8192, 1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S500x768, .f32⟩
  | .hbm, ⟨2, _⟩ => ⟨S500x768, .f32⟩
  | .hbm, ⟨3, _⟩ => ⟨S_, .f32⟩
  | .hbm, ⟨4, _⟩ => ⟨S500, .f32⟩
  | .hbm, ⟨5, _⟩ => ⟨S500x1, .f32⟩
  | .hbm, ⟨6, _⟩ => ⟨S_, .f32⟩
  | .hbm, ⟨7, _⟩ => ⟨S500x1, .f32⟩
  | .hbm, ⟨8, _⟩ => ⟨S500x1, .f32⟩
  | .hbm, ⟨9, _⟩ => ⟨S500x1, .f32⟩
  | .hbm, ⟨10, _⟩ => ⟨S500x768, .f32⟩
  | .hbm, ⟨11, _⟩ => ⟨S500x768, .f32⟩
  | .hbm, ⟨12, _⟩ => ⟨S4x8192x768, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x768, .f32⟩
  | .hbm, ⟨21, _⟩ => ⟨S4x8192x768, .f32⟩
  | .hbm, ⟨22, _⟩ => ⟨S4x8192x500, .f32⟩
  | .hbm, ⟨23, _⟩ => ⟨S4x8192x1, .f32⟩
  | .hbm, ⟨24, _⟩ => ⟨S4x8192x1, .i32⟩
  | .hbm, ⟨25, _⟩ => ⟨S_, .i32⟩
  | .hbm, ⟨26, _⟩ => ⟨S4x8192x1, .i32⟩
  | .hbm, ⟨27, _⟩ => ⟨S4x8192x1, .i1⟩
  | .hbm, ⟨28, _⟩ => ⟨S_, .i32⟩
  | .hbm, ⟨29, _⟩ => ⟨S4x8192x1, .i32⟩
  | .hbm, ⟨30, _⟩ => ⟨S4x8192x1, .i32⟩
  | .hbm, ⟨31, _⟩ => ⟨S4x8192x1, .i32⟩
  | .hbm, ⟨32, _⟩ => ⟨S4x8192x1x1, .i32⟩
  | .hbm, ⟨33, _⟩ => ⟨S4x8192x1x768, .f32⟩
  | .hbm, ⟨34, _⟩ => ⟨S4x8192x1x1x768, .f32⟩
  | .hbm, ⟨35, _⟩ => ⟨S_, .i32⟩
  | .hbm, ⟨36, _⟩ => ⟨S4x8192x1, .i32⟩
  | .hbm, ⟨37, _⟩ => ⟨S4x8192x1, .i1⟩
  | .hbm, ⟨38, _⟩ => ⟨S_, .i32⟩
  | .hbm, ⟨39, _⟩ => ⟨S4x8192x1, .i32⟩
  | .hbm, ⟨40, _⟩ => ⟨S4x8192x1, .i32⟩
  | .hbm, ⟨41, _⟩ => ⟨S4x8192x1, .i32⟩
  | .hbm, ⟨42, _⟩ => ⟨S4x8192x1x1, .i32⟩
  | .hbm, ⟨43, _⟩ => ⟨S4x8192x1x768, .f32⟩
  | .hbm, ⟨44, _⟩ => ⟨S4x8192x768, .f32⟩
  | .hbm, ⟨45, _⟩ => ⟨S_, .i32⟩
  | .hbm, ⟨46, _⟩ => ⟨S4x8192x1, .i32⟩
  | .hbm, ⟨47, _⟩ => ⟨S4x8192x1, .i1⟩
  | .hbm, ⟨48, _⟩ => ⟨S_, .i32⟩
  | .hbm, ⟨49, _⟩ => ⟨S4x8192x1, .i32⟩
  | .hbm, ⟨50, _⟩ => ⟨S4x8192x1, .i32⟩
  | .hbm, ⟨51, _⟩ => ⟨S4x8192x1, .i32⟩
  | .hbm, ⟨52, _⟩ => ⟨S4x8192x1x1, .i32⟩
  | .hbm, ⟨53, _⟩ => ⟨S4x8192x1x768, .f32⟩
  | .hbm, ⟨54, _⟩ => ⟨S4x8192x1x768, .f32⟩
  | .hbm, ⟨55, _⟩ => ⟨S4x8192x1x768, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proof.Spec.lean ====
/-
  The mathematics both programs compute, over the extended reals, for one row of the input against the whole table: the
  row and the table's entries divided by their lengths, the row's score against each entry, the first entry of greatest
  score. Everything later is stated in these names.
-/
module

public import Idealize.ShloMosaic.Lib.Pointwise

@[expose] public section

noncomputable section

namespace Cert.Codebook

open Idealize.ShloMosaic

/-- A row times the reciprocal of its length, the squared length kept away from zero by the printed constant. -/
def unitRow (u : Fin 768 → EReal) (c : Fin 768) : EReal :=
  u c * Ideal.rsqrt (max (∑ k, u k * u k) (Ideal.ofBits .f32 0x2B8CBCCC#32))

/-- The score of a row against entry `k` of the table. -/
def score (u : Fin 768 → EReal) (W : Fin 500 → Fin 768 → EReal) (k : Fin 500) : EReal :=
  ∑ c, unitRow u c * unitRow (W k) c

/-- Entry `k` is the first of the greatest scores: none beats it, and every earlier one is beaten by it. -/
def IsFirstMax (s : Fin 500 → EReal) (k : Fin 500) : Prop := (∀ j, s j ≤ s k) ∧ ∀ j, j < k → s j < s k

theorem exists_firstMax (s : Fin 500 → EReal) : ∃ k, IsFirstMax s k := by
  obtain ⟨m, -, hm⟩ := Finset.exists_max_image Finset.univ s ⟨0, Finset.mem_univ _⟩
  let T := Finset.univ.filter fun k => s k = s m
  have hT : T.Nonempty := ⟨m, by simp [T]⟩
  have hk : s (T.min' hT) = s m := by
    have h := Finset.min'_mem T hT
    exact (Finset.mem_filter.mp h).2
  refine ⟨T.min' hT, fun j => hk ▸ hm j (Finset.mem_univ j), fun j hj => ?_⟩
  rw [hk]
  refine lt_of_le_of_ne (hm j (Finset.mem_univ j)) fun he => ?_
  exact absurd (Finset.min'_le T j (by simp [T, he])) (not_le.mpr hj)

/-- The first entry of greatest score. -/
def best (s : Fin 500 → EReal) : Fin 500 := Classical.choose (exists_firstMax s)

theorem best_spec (s : Fin 500 → EReal) : IsFirstMax s (best s) := Classical.choose_spec (exists_firstMax s)

theorem le_best (s : Fin 500 → EReal) (j : Fin 500) : s j ≤ s (best s) := (best_spec s).1 j

theorem lt_best (s : Fin 500 → EReal) (j : Fin 500) (h : j < best s) : s j < s (best s) := (best_spec s).2 j h

/-- There is only one such entry. -/
theorem eq_best (s : Fin 500 → EReal) (k : Fin 500) (h : IsFirstMax s k) : k = best s := by
  rcases lt_trichotomy k (best s) with hlt | he | hgt
  · exact absurd (h.1 (best s)) (not_le.mpr (lt_best s k hlt))
  · exact he
  · exact absurd (le_best s k) (not_le.mpr (h.2 _ hgt))

/-- The maximum of the scores, folded from minus infinity, is the score of the first greatest entry. -/
theorem fold_max_eq (s : Fin 500 → EReal) : Finset.univ.fold max (⊥ : EReal) s = s (best s) := by
  apply le_antisymm
  · exact Finset.fold_max_le _ |>.mpr ⟨bot_le, fun j _ => le_best s j⟩
  · exact Finset.le_fold_max _ |>.mpr (Or.inr ⟨best s, Finset.mem_univ _, le_rfl⟩)

/-- The word of a small number read as a signed number. -/
theorem toInt_small (n : ℕ) (h : n ≤ 500) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

/-- The signed minimum of two words is the word of the smaller number. -/
theorem toInt_minsi (x y : BitVec 32) : (IntOp.minsi x y).toInt = min x.toInt y.toInt := by
  unfold IntOp.minsi
  split
  · rename_i h; rw [min_eq_left]; exact le_of_lt (by simpa [BitVec.slt] using h)
  · rename_i h; rw [min_eq_right]; simpa [BitVec.slt] using h

theorem toInt_fold_minsi (f : Fin 500 → BitVec 32) (b : BitVec 32) (T : Finset (Fin 500)) :
    (T.fold IntOp.minsi b f).toInt = T.fold min b.toInt (fun k => (f k).toInt) := by
  induction T using Finset.induction_on with
  | empty => rfl
  | insert a T ha ih => rw [Finset.fold_insert ha, Finset.fold_insert ha, toInt_minsi, ih]

/-- The least position whose score equals the maximum, as the kernel finds it: positions off the maximum count as 500,
    the minimum is over signed words. -/
theorem fold_min_position (s : Fin 500 → EReal) :
    Finset.univ.fold IntOp.minsi 2147483647#32 (fun k : Fin 500 => if s k = s (best s) then BitVec.ofNat 32 k.val else 500#32)
      = BitVec.ofNat 32 (best s).val := by
  have hb : (best s).val < 500 := (best s).isLt
  apply BitVec.eq_of_toInt_eq
  rw [toInt_fold_minsi, toInt_small (best s).val (by omega)]
  apply le_antisymm
  · refine Finset.fold_min_le _ |>.mpr (Or.inr ⟨best s, Finset.mem_univ _, ?_⟩)
    rw [if_pos rfl, toInt_small (best s).val (by omega)]
  · refine Finset.le_fold_min _ |>.mpr ⟨?_, fun k _ => ?_⟩
    · have : (2147483647#32 : BitVec 32).toInt = 2147483647 := by decide
      omega
    · have hk : k.val < 500 := k.isLt
      split
      · rename_i h
        rw [toInt_small k.val (by omega)]
        have : ¬ k < best s := fun hlt => absurd h (ne_of_lt (lt_best s k hlt))
        have := Fin.not_lt.mp this
        exact_mod_cast this
      · have : (500#32 : BitVec 32).toInt = 500 := by decide
        omega

/-- Words of table positions are equal only when the positions are. -/
theorem ofNat_inj_small (a b : ℕ) (ha : a ≤ 500) (hb : b ≤ 500) : BitVec.ofNat 32 a = BitVec.ofNat 32 b ↔ a = b := by
  constructor
  · intro h
    have := congrArg BitVec.toInt h
    rw [toInt_small _ ha, toInt_small _ hb] at this
    exact_mod_cast this
  · exact fun h => h ▸ rfl

/-- A sum against the row that is one at position `b` and zero elsewhere picks the entry at `b`: zero times anything is
    zero, infinities included. -/
theorem sum_pick (b : Fin 500) (f : Fin 500 → EReal) :
    ∑ k : Fin 500, (FloatOps.sitofp (F := Ideal) .f32 (BitVec.setWidth 32 (IntOp.cmpi .eq (BitVec.ofNat 32 k.val) (BitVec.ofNat 32 b.val))) : EReal) * f k
      = f b := by
  rw [Finset.sum_eq_single b]
  · have : IntOp.cmpi .eq (BitVec.ofNat 32 b.val) (BitVec.ofNat 32 b.val) = 1#1 := by simp [IntOp.cmpi]
    rw [this]
    have : (FloatOps.sitofp (F := Ideal) .f32 (BitVec.setWidth 32 1#1) : EReal) = 1 := by
      show (((BitVec.setWidth 32 (1#1 : BitVec 1)).toInt : ℝ) : EReal) = 1
      have : (BitVec.setWidth 32 (1#1 : BitVec 1)).toInt = 1 := by decide
      rw [this]; simp
    rw [this, one_mul]
  · intro k _ hk
    have hne : ¬ BitVec.ofNat 32 k.val = BitVec.ofNat 32 b.val := fun h =>
      hk (Fin.ext ((ofNat_inj_small _ _ (by omega) (by omega)).mp h))
    have : IntOp.cmpi .eq (BitVec.ofNat 32 k.val) (BitVec.ofNat 32 b.val) = 0#1 := by
      show BitVec.ofBool (BitVec.ofNat 32 k.val == BitVec.ofNat 32 b.val) = 0#1
      rw [beq_eq_false_iff_ne.mpr hne]; rfl
    rw [this]
    have : (FloatOps.sitofp (F := Ideal) .f32 (BitVec.setWidth 32 0#1) : EReal) = 0 := by
      show (((BitVec.setWidth 32 (0#1 : BitVec 1)).toInt : ℝ) : EReal) = 0
      have : (BitVec.setWidth 32 (0#1 : BitVec 1)).toInt = 0 := by decide
      rw [this]; simp
    rw [this, zero_mul]
  · exact fun h => absurd (Finset.mem_univ b) h

/-- The printed minus infinity is the least extended real. -/
theorem ofBits_negInf : Ideal.ofBits .f32 0xFF800000#32 = ⊥ := by
  simp [Ideal.ofBits, Ideal.ieee]

end Cert.Codebook

end
-- ==== Proof.TopEntry.lean ====
/-
  The reference's search for the entry of greatest score, and its look-up of that entry. A stable sort that puts greater
  scores first puts the first of the greatest scores first, so the one position the reference's top-k keeps is that
  entry's. A look-up by row number at a number below 500 reads that row of the table.
-/
module

public import proofs.«01_k».proof.Proof.Spec
public import proofs.«01_k».proof.Proof.Gen.ReferenceIdeal.Read
public import Idealize.ShloMosaic.Lib.SortFacts

@[expose] public section

set_option maxRecDepth 16384

noncomputable section

namespace Cert.Codebook

open Idealize.ShloMosaic Idealize.ShloMosaic.Tactic

/-! ## The head of a stable sort -/

/-- The head of a stable sort, greater scores first, of positions listed in ascending order: no score of the list beats
    it, and every earlier position of the list has a smaller one. -/
theorem head_stableSort {n : ℕ} (s : Fin n → EReal) (B : Fin n → Fin n → Bool) (hB : ∀ a b, B a b = true ↔ s b < s a) :
    ∀ (l : List (Fin n)), l.Pairwise (· < ·) → ∀ p rest, stableSort B l = p :: rest →
      p ∈ l ∧ (∀ j ∈ l, s j ≤ s p) ∧ ∀ j ∈ l, j < p → s j < s p := by
  intro l
  induction l with
  | nil => intro _ p rest h; exact absurd h (by simp [stableSort])
  | cons a l ih =>
    intro hl p rest h
    rw [List.pairwise_cons] at hl
    unfold stableSort at h
    cases hs : stableSort B l with
    | nil =>
      have hperm := perm_stableSort B l
      rw [hs] at hperm
      have hnil : l = [] := hperm.symm.eq_nil
      rw [hs] at h
      unfold insertBefore at h
      obtain ⟨rfl, -⟩ := List.cons.inj h
      subst hnil
      refine ⟨by simp, fun j hj => ?_, fun j hj hlt => ?_⟩
      · rw [List.mem_singleton.mp hj]
      · exact absurd hlt (by rw [List.mem_singleton.mp hj]; exact lt_irrefl _)
    | cons q rest' =>
      obtain ⟨hq, hmax, hfirst⟩ := ih hl.2 q rest' hs
      rw [hs] at h
      unfold insertBefore at h
      by_cases hqa : B q a = true
      · rw [if_pos hqa] at h
        obtain ⟨rfl, -⟩ := List.cons.inj h
        have hlt : s a < s q := (hB q a).mp hqa
        refine ⟨List.mem_cons_of_mem _ hq, fun j hj => ?_, fun j hj hjq => ?_⟩
        · rcases List.mem_cons.mp hj with rfl | hj
          · exact hlt.le
          · exact hmax j hj
        · rcases List.mem_cons.mp hj with rfl | hj
          · exact hlt
          · exact hfirst j hj hjq
      · rw [if_neg hqa] at h
        obtain ⟨rfl, -⟩ := List.cons.inj h
        have hle : s q ≤ s a := not_lt.mp fun hlt => hqa ((hB q a).mpr hlt)
        refine ⟨List.mem_cons_self, fun j hj => ?_, fun j hj hja => ?_⟩
        · rcases List.mem_cons.mp hj with rfl | hj
          · exact le_rfl
          · exact (hmax j hj).trans hle
        · rcases List.mem_cons.mp hj with rfl | hj
          · exact absurd hja (lt_irrefl _)
          · exact absurd (hl.1 j hj) (not_lt.mpr hja.le)

/-- The first place of the sorted scores holds the first entry of greatest score. -/
theorem sortedFrom_zero (s : Fin 500 → EReal) (B : Fin 500 → Fin 500 → Bool) (hB : ∀ a b, B a b = true ↔ s b < s a)
    (z : Fin 500) (hz : z.val = 0) : sortedFrom B z = best s := by
  obtain ⟨p, rest, h⟩ : ∃ p rest, sortPositions 500 B = p :: rest := by
    cases h : sortPositions 500 B with
    | nil => exact absurd (length_sortPositions 500 B) (by rw [h]; decide)
    | cons p rest => exact ⟨p, rest, rfl⟩
  have hp : sortedFrom B z = p := by
    unfold sortedFrom
    rw [List.get_of_eq h]
    simp [hz]
  rw [hp]
  obtain ⟨-, hmax, hfirst⟩ := head_stableSort s B hB _ (List.pairwise_lt_finRange 500) p rest h
  exact eq_best s p ⟨fun j => hmax j (List.mem_finRange j), fun j => hfirst j (List.mem_finRange j)⟩

/-! ## The top-k's position -/

open Cert.ReferenceIdeal

theorem along_last (b : Fin 4) (r : Fin 8192) (k k' : Fin 500) (hd : 2 < S4x8192x500.rank) :
    Shape.Idx.along (s := S4x8192x500) (ix3 b r k) ⟨2, hd⟩ k' = ix3 b r k' := by
  funext a
  match a with
  | ⟨0, _⟩ => exact Function.update_of_ne (fun h => absurd (congrArg Fin.val h) (by show ¬ (0 = 2); decide)) _ _
  | ⟨1, _⟩ => exact Function.update_of_ne (fun h => absurd (congrArg Fin.val h) (by show ¬ (1 = 2); decide)) _ _
  | ⟨2, _⟩ => exact Function.update_self _ _ _

/-- The greater-than word of two scores. -/
theorem gt_word (x y : EReal) : (FloatOps.cmpfTotal (F := Ideal) (φ := .f32) .gt x y == 1#1) = true ↔ y < x := by
  show (Ideal.cmp .ogt x y == 1#1) = true ↔ y < x
  by_cases h : y < x <;> simp [Ideal.cmp, h]

/-- The position the top-k keeps for a row is its first entry of greatest score. -/
theorem topK_index (s : Vec Ideal S4x8192x500 .f32) (h : S4x8192x500.Slices (fun _ => 0) S4x8192x1) (b : Fin 4)
    (r : Fin 8192) (q : Fin 1) :
    (Host.topK S4x8192x1 2 (FloatOps.cmpfTotal (F := Ideal) (φ := .f32) .gt) s h).2 (ix3 b r q)
      = BitVec.ofNat 32 (best fun k => s (ix3 b r k)).val := by
  unfold Host.topK
  dsimp only
  rw [Host.sort2_eq_sortBy]
  dsimp only
  rw [extractStridedSlice_apply _ _ h (ix3 b r q) (ix3 b r (0 : Fin 500)) (fun a => by
    match a with
    | ⟨0, _⟩ => exact (Nat.zero_add _).symm
    | ⟨1, _⟩ => exact (Nat.zero_add _).symm
    | ⟨2, _⟩ => have := q.isLt; show 0 = 0 + q.val; omega)]
  unfold Host.sortBy
  rw [dif_pos (show 2 < S4x8192x500.rank by decide)]
  dsimp only
  rw [dif_pos (show 2 < 3 by decide)]
  have hd : 2 < S4x8192x500.rank := by decide
  refine (congrArg (fun i : S4x8192x500.Idx => BitVec.ofNat 32 (i ⟨2, hd⟩).val) (along_last b r 0 _ hd)).trans ?_
  refine congrArg (fun k : Fin 500 => BitVec.ofNat 32 k.val) (sortedFrom_zero _ _ (fun x y => ?_) _ rfl)
  exact (gt_word _ _).trans (Iff.of_eq
    (congrArg₂ (fun u v : S4x8192x500.Idx => s u < s v) (along_last b r 0 y hd) (along_last b r 0 x hd)))

/-! ## The look-up -/

/-- A position of the table is no negative word, so the wrapping of negative positions leaves it. -/
theorem wrap_position (p : Fin 500) (y : BitVec 32) :
    Scalar.select (IntOp.cmpi .slt (BitVec.ofNat 32 p.val) 0#32) y (BitVec.ofNat 32 p.val) = BitVec.ofNat 32 p.val := by
  have hp : p.val < 500 := p.isLt
  have h : IntOp.cmpi .slt (BitVec.ofNat 32 p.val) 0#32 = 0#1 := by
    show BitVec.ofBool ((BitVec.ofNat 32 p.val).slt 0#32) = 0#1
    have : (BitVec.ofNat 32 p.val).slt 0#32 = false := by
      simp only [BitVec.slt, toInt_small p.val (by omega)]
      simp
    rw [this]; rfl
  rw [h]; rfl

/-- A look-up of rows at a table position reads that row. -/
theorem gather_row (x : Vec Ideal S500x768 .f32) (idx : Vec Ideal S4x8192x1x1 .i32) (b : Fin 4) (r : Fin 8192) (q : Fin 1)
    (c : Fin 768) (p : Fin 500) (hp : idx (ix4 b r q 0) = BitVec.ofNat 32 p.val) :
    Host.gather gather_S500x768_S4x8192x1x1_S4x8192x1x768_3_0_n_n_0_3_1768 x idx (ix4 b r q c) = x (ix2 p c) := by
  unfold Host.gather
  refine congrArg x (funext fun a => Fin.ext ?_)
  show GatherDims.start _ _ idx a + GatherDims.batchCoord _ _ a + GatherDims.offCoord _ _ a = _
  rw [GatherDims.batchCoord_eq_zero _ _ _ (by intro h; exact absurd h List.not_mem_nil)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S500x768.rank) ∈ gather_S500x768_S4x8192x1x1_S4x8192x1x768_3_0_n_n_0_3_1768.startIndexMap
      from List.mem_singleton.mpr rfl)]
    have hsi : GatherDims.siIdx gather_S500x768_S4x8192x1x1_S4x8192x1x768_3_0_n_n_0_3_1768 (ix4 b r q c)
        ⟨0, by decide⟩ = ix4 b r q 0 := by
      funext e
      apply Fin.ext
      match e with
      | ⟨0, _⟩ => rfl
      | ⟨1, _⟩ => rfl
      | ⟨2, _⟩ => rfl
      | ⟨3, _⟩ => rfl
    have hlt : p.val < 500 := p.isLt
    show min (idx (GatherDims.siIdx gather_S500x768_S4x8192x1x1_S4x8192x1x768_3_0_n_n_0_3_1768 (ix4 b r q c)
      ⟨0, by decide⟩)).toInt.toNat (500 - 1) + 0 + 0 = p.val
    rw [hsi, hp, toInt_small p.val (by omega)]
    simp only [Int.toNat_natCast]
    omega
  | ⟨1, _⟩ =>
    have hs : GatherDims.start gather_S500x768_S4x8192x1x1_S4x8192x1x768_3_0_n_n_0_3_1768 (ix4 b r q c) idx ⟨1, by decide⟩ = 0 := by
      unfold GatherDims.start
      rw [dif_neg (show ¬ (⟨1, by decide⟩ : Fin S500x768.rank) ∈ gather_S500x768_S4x8192x1x1_S4x8192x1x768_3_0_n_n_0_3_1768.startIndexMap
        from fun h => absurd (List.mem_singleton.mp h) (by decide))]
    have ho : GatherDims.offCoord gather_S500x768_S4x8192x1x1_S4x8192x1x768_3_0_n_n_0_3_1768 (ix4 b r q c) ⟨1, by decide⟩ = c.val := by
      unfold GatherDims.offCoord
      rw [dif_pos ((GatherDims.mem_sKept _ _).mpr ⟨fun h => absurd (List.mem_singleton.mp h) (by decide), List.not_mem_nil⟩)]
      rfl
    show GatherDims.start _ _ idx ⟨1, _⟩ + 0 + GatherDims.offCoord _ _ ⟨1, _⟩ = c.val
    rw [hs, ho]
    omega

end Cert.Codebook

end
-- ==== Proof.Tile.lean ====
/-
  What the kernel's body computes on one half block of 1024 rows, index by index: the scores of every row, the first
  greatest one, the table's row at that position added to the row, and the sum of the greatest scores. The body does
  the same on both halves; the second half's values are the first's by definition.
-/
module

public import proofs.«01_k».proof.Proof.Spec
public import proofs.«01_k».proof.Proof.Gen.KernelIdeal.Skeleton

@[expose] public section

set_option maxRecDepth 16384

noncomputable section

namespace Cert.Codebook

open Idealize.ShloMosaic
open Cert.KernelIdeal Cert.KernelIdeal.Gen

variable (w : Vec Ideal S500x768 .f32) (v : Vec Ideal S1x1024x768 .f32)

/-- The table as a function of entry and coordinate. -/
abbrev table (w : Vec Ideal S500x768 .f32) (k : Fin 500) (c : Fin 768) : EReal := w (ix2 k c)

/-- Row `r` of a half block. -/
abbrev tileRow (v : Vec Ideal S1x1024x768 .f32) (r : Fin 1024) (c : Fin 768) : EReal := v (ix3 0 r c)

theorem pay5_apply (k : Fin 500) (c : Fin 768) : k0_pay5 w (ix2 k c) = unitRow (table w k) c := by
  pointwise [k0_pay5]
  rfl

theorem pay8_apply (r : Fin 1024) (k : Fin 500) : k0_pay8 w v (ix2 r k) = score (tileRow v r) (table w) k := by
  pointwise [k0_pay8, k0_pay7]
  simp only [pay5_apply]
  rfl

theorem pay9_apply (r : Fin 1024) (k : Fin 500) : k0_pay9 w v (ix3 0 r k) = score (tileRow v r) (table w) k := by
  pointwise [k0_pay9]
  exact pay8_apply w v r k

theorem pay10_apply (r : Fin 1024) :
    k0_pay10 w v (ix2 r 0) = score (tileRow v r) (table w) (best (score (tileRow v r) (table w))) := by
  pointwise [k0_pay10]
  simp only [pay8_apply]
  exact (congrArg (fun b => Finset.univ.fold max b _) ofBits_negInf).trans (fold_max_eq _)

theorem pay11_apply (r : Fin 1024) :
    k0_pay11 w v (ix2 r 0) = BitVec.ofNat 32 (best (score (tileRow v r) (table w))).val := by
  pointwise [k0_pay11]
  simp only [pay8_apply, pay10_apply]
  exact fold_min_position _

theorem pay12_apply (r : Fin 1024) :
    k0_pay12 w v (ix3 0 r 0) = BitVec.ofNat 32 (best (score (tileRow v r) (table w))).val := by
  pointwise [k0_pay12]
  exact pay11_apply w v r

/-- The numbers 0, 1, 2, … along a row, as the body makes them. -/
abbrev positions : IVec S1024x500 32 := iota .tc S1024x500 32 [1] iota_S1024x500_d1_w32

theorem positions_apply (r : Fin 1024) (k : Fin 500) : positions (ix2 r k) = BitVec.ofNat 32 k.val := by
  pointwise [positions]

theorem pay13_apply (r : Fin 1024) (c : Fin 768) :
    k0_pay13 w (k0_pay7 v) positions (k0_pay11 w v) (ix3 0 r c)
      = table w (best (score (tileRow v r) (table w))) c + tileRow v r c := by
  pointwise [k0_pay13, k0_pay7]
  simp only [positions_apply, pay11_apply]
  rw [sum_pick (best (score (tileRow v r) (table w))) fun k => w (ix2 k c)]

/-- The sum of the greatest scores of a half block's rows. -/
def tileSum (w : Vec Ideal S500x768 .f32) (v : Vec Ideal S1x1024x768 .f32) : EReal :=
  ∑ r : Fin 1024, score (tileRow v r) (table w) (best (score (tileRow v r) (table w)))

/-- A sum over an axis of length one is its one term. -/
theorem sum_twice (f : Fin 1024 → EReal) : ∑ r : Fin 1024, ∑ _x : Fin 1, f r = ∑ r : Fin 1024, f r :=
  Finset.sum_congr rfl fun _ _ => Fintype.sum_subsingleton _ 0

theorem pay14_sum (a : FVec Ideal S1x1 .f32) (b : FVec Ideal S1024x1 .f32) (y0 y1 : Fin 1) :
    k0_pay14 a b (ix2 y0 y1) = a (ix2 y0 y1) + ∑ r : Fin 1024, b (ix2 r 0) := by
  pointwise [k0_pay14]
  rw [sum_twice fun r => b (ix2 r 0)]

theorem pay4_sum (a d : FVec Ideal S1x1 .f32) (b : FVec Ideal S1024x1 .f32) (y0 y1 : Fin 1) :
    k0_pay4 a b d (ix2 y0 y1) = d (ix2 y0 y1) + (a (ix2 y0 y1) + ∑ r : Fin 1024, b (ix2 r 0)) := by
  pointwise [k0_pay4]
  rw [sum_twice fun r => b (ix2 r 0)]

theorem sum_pay10 : ∑ r : Fin 1024, k0_pay10 w v (ix2 r 0) = tileSum w v :=
  Finset.sum_congr rfl fun r _ => pay10_apply w v r

theorem pay14_apply (a : FVec Ideal S1x1 .f32) (y : S1x1.Idx) :
    k0_pay14 a (k0_pay10 w v) y = a y + tileSum w v := by
  idx_vars y
  rw [pay14_sum, sum_pay10]

theorem pay4_apply (a d : FVec Ideal S1x1 .f32) (y : S1x1.Idx) :
    k0_pay4 a (k0_pay10 w v) d y = d y + (a y + tileSum w v) := by
  idx_vars y
  rw [pay4_sum, sum_pay10]

theorem pay6_apply (y : S1x1.Idx) : k0_pay6 (F := Ideal) y = 0 := by
  idx_vars y
  pointwise [k0_pay6]

theorem pay3_apply (y : S1x1.Idx) : k0_pay3 (F := Ideal) y = 0 := by
  idx_vars y
  pointwise [k0_pay3]

theorem pay17_eq : k0_pay17 (k0_pay5 w) v = k0_pay9 w v := rfl
theorem pay18_eq : k0_pay18 (k0_pay5 w) v = k0_pay10 w v := rfl
theorem pay1_eq : k0_pay1 (k0_pay19 (k0_pay5 w) v) = k0_pay12 w v := rfl
theorem pay2_eq (p : IVec S1024x500 32) :
    k0_pay2 w (k0_pay15 v) p (k0_pay19 (k0_pay5 w) v) = k0_pay13 w (k0_pay7 v) p (k0_pay11 w v) := rfl

end Cert.Codebook

end
-- ==== Proof.Blocks.lean ====
/-
  What one grid point leaves in the output blocks, as functions of the point's block of 2048 rows and the table: two
  half blocks laid one after the other. And what the running sum holds after each point.
-/
module

public import proofs.«01_k».proof.Proof.Tile
public import proofs.«01_k».proof.Proof.Gen.KernelIdeal.Frame
public import Idealize.ShloMosaic.Lib.Pipeline.Value

@[expose] public section

set_option maxRecDepth 16384

noncomputable section

namespace Cert.Codebook

open Idealize.ShloMosaic Idealize.ShloMosaic.Tactic
open Cert.KernelIdeal Cert.KernelIdeal.Gen

/-! ## The two halves of a block -/

section Halves

variable (x : Vec Ideal S1x2048x768 .f32) (w : Vec Ideal S500x768 .f32)

/-- Row `r` of a block. -/
abbrev blockRow (x : Vec Ideal S1x2048x768 .f32) (r : Fin 2048) (c : Fin 768) : EReal := x (ix3 0 r c)

/-- The first greatest entry for row `r` of a block. -/
abbrev blockBest (x : Vec Ideal S1x2048x768 .f32) (w : Vec Ideal S500x768 .f32) (r : Fin 2048) : Fin 500 :=
  best (score (blockRow x r) (table w))

/-- The greatest score of row `r` of a block. -/
abbrev blockTop (x : Vec Ideal S1x2048x768 .f32) (w : Vec Ideal S500x768 .f32) (r : Fin 2048) : EReal :=
  score (blockRow x r) (table w) (blockBest x w r)

/-- The block of the first result: each row plus its entry of the table. -/
def outBlock (x : Vec Ideal S1x2048x768 .f32) (w : Vec Ideal S500x768 .f32) : Vec Ideal S1x2048x768 .f32 :=
  fun y => table w (blockBest x w (y 1)) (y 2) + blockRow x (y 1) (y 2)

/-- The block of scores. -/
def scoreBlock (x : Vec Ideal S1x2048x768 .f32) (w : Vec Ideal S500x768 .f32) : Vec Ideal S1x2048x500 .f32 :=
  fun y => score (blockRow x (y 1)) (table w) (y 2)

/-- The block of positions. -/
def indexBlock (x : Vec Ideal S1x2048x768 .f32) (w : Vec Ideal S500x768 .f32) : Vec Ideal S1x2048x1 .i32 :=
  fun y => BitVec.ofNat 32 (blockBest x w (y 1)).val

/-- The sum of a block's greatest scores. -/
def blockSum (x : Vec Ideal S1x2048x768 .f32) (w : Vec Ideal S500x768 .f32) : EReal :=
  ∑ r : Fin 2048, blockTop x w r

/-- Row `r` of the half that starts at row `o`, as a row of the block. -/
def atRow (o : ℕ) (ho : o + 1024 ≤ 2048) (r : Fin 1024) : Fin 2048 := ⟨o + r.val, by have := r.isLt; omega⟩

/-- The half block that starts at row `o`. -/
def half (o : ℕ) (ho : o + 1024 ≤ 2048) (x : Vec Ideal S1x2048x768 .f32) : Vec Ideal S1x1024x768 .f32 :=
  fun y => x (ix3 (y 0) (atRow o ho (y 1)) (y 2))

theorem emb_half (o : ℕ) (ho : o + 1024 ≤ 2048) {n : ℕ}
    (inb : ∀ a, (![0, o, 0] : Fin 3 → ℕ) a + (![1, 1024, n] : Fin 3 → ℕ) a ≤ (⟨3, ![1, 2048, n]⟩ : Shape).size a)
    (r : Fin 1024) (k : Fin n) :
    (Rect.unit (s := ⟨3, ![1, 2048, n]⟩) ![0, o, 0] ![1, 1024, n] inb).emb (ix3 0 r k) = ix3 0 (atRow o ho r) k := by
  funext a
  apply Fin.ext
  fin_cases a
  · rfl
  · show o + 1 * r.val = o + r.val
    omega
  · show 0 + 1 * k.val = k.val
    omega

theorem ld_half (o : ℕ) (ho : o + 1024 ≤ 2048)
    (inb : ∀ a, (![0, o, 0] : Fin 3 → ℕ) a + (![1, 1024, 768] : Fin 3 → ℕ) a ≤ S1x2048x768.size a) :
    View.ld x (Rect.unit (s := S1x2048x768) ![0, o, 0] ![1, 1024, 768] inb) = half o ho x := by
  funext y
  obtain ⟨y0, y1, y2, rfl⟩ : ∃ (y0 : Fin 1) (y1 : Fin 1024) (y2 : Fin 768), y = ix3 y0 y1 y2 := ⟨y 0, y 1, y 2, eq_ix3 y⟩
  obtain rfl : y0 = 0 := Subsingleton.elim _ _
  exact congrArg x (emb_half o ho inb y1 y2)

theorem tileRow_half (o : ℕ) (ho : o + 1024 ≤ 2048) (r : Fin 1024) : tileRow (half o ho x) r = blockRow x (atRow o ho r) := rfl

/-- Two half blocks stored one after the other leave the block whose halves they are. -/
theorem canon_halves {n : ℕ} {e : EltTy} (G : Vec Ideal ⟨3, ![1, 2048, n]⟩ e) (p0 p1 : Vec Ideal ⟨3, ![1, 1024, n]⟩ e)
    (inb0 : ∀ a, (![0, 0, 0] : Fin 3 → ℕ) a + (![1, 1024, n] : Fin 3 → ℕ) a ≤ (⟨3, ![1, 2048, n]⟩ : Shape).size a)
    (inb1 : ∀ a, (![0, 1024, 0] : Fin 3 → ℕ) a + (![1, 1024, n] : Fin 3 → ℕ) a ≤ (⟨3, ![1, 2048, n]⟩ : Shape).size a)
    (h0 : ∀ r k, p0 (ix3 0 r k) = G (ix3 0 (atRow 0 (by omega) r) k))
    (h1 : ∀ r k, p1 (ix3 0 r k) = G (ix3 0 (atRow 1024 (by omega) r) k)) :
    View.canon (Val := Elt Ideal) [⟨Rect.unit (s := ⟨3, ![1, 2048, n]⟩) ![0, 1024, 0] ![1, 1024, n] inb1, p1⟩,
      ⟨Rect.unit (s := ⟨3, ![1, 2048, n]⟩) ![0, 0, 0] ![1, 1024, n] inb0, p0⟩] = G := by
  funext y
  refine View.canon_apply_of_pieces G _ ?_ y ?_
  · intro p hp
    simp only [List.mem_cons, List.not_mem_nil, or_false] at hp
    rcases hp with rfl | rfl
    · intro (j : (⟨3, ![1, 1024, n]⟩ : Shape).Idx)
      obtain ⟨j0, j1, j2, rfl⟩ : ∃ (j0 : Fin 1) (j1 : Fin 1024) (j2 : Fin n), j = ix3 j0 j1 j2 := ⟨j 0, j 1, j 2, eq_ix3 j⟩
      obtain rfl : j0 = 0 := Subsingleton.elim _ _
      exact (h1 j1 j2).trans (congrArg G (emb_half 1024 (by omega) inb1 j1 j2).symm)
    · intro (j : (⟨3, ![1, 1024, n]⟩ : Shape).Idx)
      obtain ⟨j0, j1, j2, rfl⟩ : ∃ (j0 : Fin 1) (j1 : Fin 1024) (j2 : Fin n), j = ix3 j0 j1 j2 := ⟨j 0, j 1, j 2, eq_ix3 j⟩
      obtain rfl : j0 = 0 := Subsingleton.elim _ _
      exact (h0 j1 j2).trans (congrArg G (emb_half 0 (by omega) inb0 j1 j2).symm)
  · have hy0 : (y 0).val < 1 := (y 0).isLt
    have hy1 : (y 1).val < 2048 := (y 1).isLt
    have hy2 : (y 2).val < n := (y 2).isLt
    by_cases hy : (y 1).val < 1024
    · refine ⟨_, List.mem_cons_of_mem _ (List.mem_singleton_self _), (Rect.mem_set_unit (inb := inb0)).mpr fun a => ?_⟩
      fin_cases a
      · exact ⟨Nat.zero_le _, by show (y 0).val < 0 + 1; omega⟩
      · exact ⟨Nat.zero_le _, by show (y 1).val < 0 + 1024; omega⟩
      · exact ⟨Nat.zero_le _, by show (y 2).val < 0 + n; omega⟩
    · refine ⟨_, List.mem_cons_self, (Rect.mem_set_unit (inb := inb1)).mpr fun a => ?_⟩
      fin_cases a
      · exact ⟨Nat.zero_le _, by show (y 0).val < 0 + 1; omega⟩
      · exact ⟨by show 1024 ≤ (y 1).val; omega, by show (y 1).val < 1024 + 1024; omega⟩
      · exact ⟨Nat.zero_le _, by show (y 2).val < 0 + n; omega⟩

/-- A sum over a block's rows is the sum over its two halves. -/
theorem sum_halves (f : Fin 2048 → EReal) :
    ∑ r : Fin 2048, f r
      = ∑ r : Fin 1024, f (atRow 0 (by omega) r) + ∑ r : Fin 1024, f (atRow 1024 (by omega) r) := by
  have h := Fin.sum_univ_add (a := 1024) (b := 1024) f
  have e0 : ∀ r : Fin 1024, f (Fin.castAdd 1024 r) = f (atRow 0 (by omega) r) := fun r =>
    congrArg f (Fin.ext (Nat.zero_add r.val).symm)
  have e1 : ∀ r : Fin 1024, f (Fin.natAdd 1024 r) = f (atRow 1024 (by omega) r) := fun r => rfl
  rw [Finset.sum_congr rfl fun r _ => e0 r, Finset.sum_congr rfl fun r _ => e1 r] at h
  exact h

/-- A block's sum is the sum of its two halves' sums. -/
theorem blockSum_eq : blockSum x w = tileSum w (half 0 (by omega) x) + tileSum w (half 1024 (by omega) x) :=
  sum_halves fun r => blockTop x w r

/-- The table loaded whole is the table. -/
theorem ld_table (inb : ∀ a, (![0, 0] : Fin 2 → ℕ) a + (![500, 768] : Fin 2 → ℕ) a ≤ S500x768.size a) :
    View.ld w (Rect.unit (s := S500x768) ![0, 0] ![500, 768] inb) = w :=
  View.ld_unit_zero (by funext a; fin_cases a <;> rfl) inb w

end Halves

/-! ## What a point leaves in the output blocks -/

section Points

/-- The half block loaded at row `o`. -/
abbrev load (o : ℕ) (x : Vec Ideal S1x2048x768 .f32)
    (inb : ∀ a, (![0, o, 0] : Fin 3 → ℕ) a + (![1, 1024, 768] : Fin 3 → ℕ) a ≤ S1x2048x768.size a) :
    Vec Ideal S1x1024x768 .f32 :=
  View.ld x (Rect.unit (s := S1x2048x768) ![0, o, 0] ![1, 1024, 768] inb)

variable (x : Vec Ideal S1x2048x768 .f32) (w : Vec Ideal S500x768 .f32)
  (inb0 : ∀ a, (![0, 0, 0] : Fin 3 → ℕ) a + (![1, 1024, 768] : Fin 3 → ℕ) a ≤ S1x2048x768.size a)
  (inb1 : ∀ a, (![0, 1024, 0] : Fin 3 → ℕ) a + (![1, 1024, 768] : Fin 3 → ℕ) a ≤ S1x2048x768.size a)

theorem outBlock_canon :
    View.canon (Val := Elt Ideal) [⟨Rect.unit (s := S1x2048x768) ![0, 1024, 0] ![1, 1024, 768] inb1,
        k0_pay2 w (k0_pay15 (load 1024 x inb1)) positions (k0_pay19 (k0_pay5 w) (load 1024 x inb1))⟩,
      ⟨Rect.unit (s := S1x2048x768) ![0, 0, 0] ![1, 1024, 768] inb0,
        k0_pay13 w (k0_pay7 (load 0 x inb0)) positions (k0_pay11 w (load 0 x inb0))⟩] = outBlock x w := by
  rw [load, ld_half x 1024 (by omega) inb1, load, ld_half x 0 (by omega) inb0]
  exact canon_halves (outBlock x w) _ _ inb0 inb1 (fun r k => pay13_apply w _ r k)
    (fun r k => (congrFun (pay2_eq w _ _) _).trans (pay13_apply w _ r k))

theorem scoreBlock_canon inb2 inb3 :
    View.canon (Val := Elt Ideal) [⟨Rect.unit (s := S1x2048x500) ![0, 1024, 0] ![1, 1024, 500] inb3,
        k0_pay17 (k0_pay5 w) (load 1024 x inb1)⟩,
      ⟨Rect.unit (s := S1x2048x500) ![0, 0, 0] ![1, 1024, 500] inb2, k0_pay9 w (load 0 x inb0)⟩] = scoreBlock x w := by
  rw [load, ld_half x 1024 (by omega) inb1, load, ld_half x 0 (by omega) inb0]
  exact canon_halves (scoreBlock x w) _ _ inb2 inb3 (fun r k => pay9_apply w _ r k)
    (fun r k => (congrFun (pay17_eq w _) _).trans (pay9_apply w _ r k))

theorem indexBlock_canon inb2 inb3 :
    View.canon (Val := Elt Ideal) [⟨Rect.unit (s := S1x2048x1) ![0, 1024, 0] ![1, 1024, 1] inb3,
        k0_pay1 (k0_pay19 (k0_pay5 w) (load 1024 x inb1))⟩,
      ⟨Rect.unit (s := S1x2048x1) ![0, 0, 0] ![1, 1024, 1] inb2, k0_pay12 w (load 0 x inb0)⟩] = indexBlock x w := by
  rw [load, ld_half x 1024 (by omega) inb1, load, ld_half x 0 (by omega) inb0]
  exact canon_halves (indexBlock x w) _ _ inb2 inb3
    (fun r k => by obtain rfl : k = 0 := Subsingleton.elim _ _; exact pay12_apply w _ r)
    (fun r k => by
      obtain rfl : k = 0 := Subsingleton.elim _ _
      exact (congrFun (pay1_eq w _) _).trans (pay12_apply w _ r))

/-- The new running sum: the old one and the block's sum. -/
theorem sum_payload (d : Vec Ideal S1x1 .f32) (y : S1x1.Idx) :
    k0_pay4 (k0_pay14 k0_pay6 (k0_pay10 w (load 0 x inb0))) (k0_pay18 (k0_pay5 w) (load 1024 x inb1)) d y
      = d y + blockSum x w := by
  rw [load, load, ld_half x 1024 (by omega) inb1, ld_half x 0 (by omega) inb0, pay18_eq, pay4_apply, pay14_apply,
    pay6_apply, zero_add, blockSum_eq]

variable (m : (ℓ : Loc nD τ sig) → Buf (Elt Ideal) ℓ) (c : Dev nD) (t : Fin cfg0.N)

/-- A point's block of the rows. -/
abbrev xblk : Vec Ideal S1x2048x768 .f32 := iblk m c 0 t

/-- A point's copy of the table. -/
abbrev wblk : Vec Ideal S500x768 .f32 := iblk m c 1 t

/-- The first result's block after a point, whichever way the body's conditionals go. -/
theorem out_at : (outsAt0 m c t.val t.isLt).1 = outBlock (xblk m c t) (wblk m c t) := by
  by_cases h0 : t.val % 16 = 0
  · have h1 : ¬t.val % 16 = 15 := by omega
    rw [outsAt0_A m c t h0 h1]
    dsimp only
    unfold out0_A_2
    rw [View.read_writes_junk_eq_canon]
    unfold kernelRun0_A
    dsimp only
    sl_unfold_words
    simp only [View.readAt_eq_ld, (hs0_0 t).read_unread, (hs0_1 t).read_unread, ld_table]
    exact outBlock_canon _ _ _ _
  by_cases h1 : t.val % 16 = 15
  · rw [outsAt0_C m c t h0 h1]
    dsimp only
    unfold out0_C_2
    rw [View.read_writes_junk_eq_canon]
    unfold kernelRun0_C
    dsimp only
    sl_unfold_words
    simp only [View.readAt_eq_ld, (hs0_0 t).read_unread, (hs0_1 t).read_unread, ld_table]
    exact outBlock_canon _ _ _ _
  · rw [outsAt0_B m c t h0 h1]
    dsimp only
    unfold out0_B_2
    rw [View.read_writes_junk_eq_canon]
    unfold kernelRun0_B
    dsimp only
    sl_unfold_words
    simp only [View.readAt_eq_ld, (hs0_0 t).read_unread, (hs0_1 t).read_unread, ld_table]
    exact outBlock_canon _ _ _ _

/-- The block of scores after a point. -/
theorem score_at : (outsAt0 m c t.val t.isLt).2.1 = scoreBlock (xblk m c t) (wblk m c t) := by
  by_cases h0 : t.val % 16 = 0
  · have h1 : ¬t.val % 16 = 15 := by omega
    rw [outsAt0_A m c t h0 h1]
    dsimp only
    unfold out0_A_3
    rw [View.read_writes_junk_eq_canon]
    unfold kernelRun0_A
    dsimp only
    sl_unfold_words
    simp only [View.readAt_eq_ld, (hs0_0 t).read_unread, (hs0_1 t).read_unread, ld_table]
    exact scoreBlock_canon _ _ _ _ _ _
  by_cases h1 : t.val % 16 = 15
  · rw [outsAt0_C m c t h0 h1]
    dsimp only
    unfold out0_C_3
    rw [View.read_writes_junk_eq_canon]
    unfold kernelRun0_C
    dsimp only
    sl_unfold_words
    simp only [View.readAt_eq_ld, (hs0_0 t).read_unread, (hs0_1 t).read_unread, ld_table]
    exact scoreBlock_canon _ _ _ _ _ _
  · rw [outsAt0_B m c t h0 h1]
    dsimp only
    unfold out0_B_3
    rw [View.read_writes_junk_eq_canon]
    unfold kernelRun0_B
    dsimp only
    sl_unfold_words
    simp only [View.readAt_eq_ld, (hs0_0 t).read_unread, (hs0_1 t).read_unread, ld_table]
    exact scoreBlock_canon _ _ _ _ _ _

/-- The block of positions after a point. -/
theorem index_at : (outsAt0 m c t.val t.isLt).2.2.1 = indexBlock (xblk m c t) (wblk m c t) := by
  by_cases h0 : t.val % 16 = 0
  · have h1 : ¬t.val % 16 = 15 := by omega
    rw [outsAt0_A m c t h0 h1]
    dsimp only
    unfold out0_A_4
    rw [View.read_writes_junk_eq_canon]
    unfold kernelRun0_A
    dsimp only
    sl_unfold_words
    simp only [View.readAt_eq_ld, (hs0_0 t).read_unread, (hs0_1 t).read_unread, ld_table]
    exact indexBlock_canon _ _ _ _ _ _
  by_cases h1 : t.val % 16 = 15
  · rw [outsAt0_C m c t h0 h1]
    dsimp only
    unfold out0_C_4
    rw [View.read_writes_junk_eq_canon]
    unfold kernelRun0_C
    dsimp only
    sl_unfold_words
    simp only [View.readAt_eq_ld, (hs0_0 t).read_unread, (hs0_1 t).read_unread, ld_table]
    exact indexBlock_canon _ _ _ _ _ _
  · rw [outsAt0_B m c t h0 h1]
    dsimp only
    unfold out0_B_4
    rw [View.read_writes_junk_eq_canon]
    unfold kernelRun0_B
    dsimp only
    sl_unfold_words
    simp only [View.readAt_eq_ld, (hs0_0 t).read_unread, (hs0_1 t).read_unread, ld_table]
    exact indexBlock_canon _ _ _ _ _ _

theorem ld_cell (d : Vec Ideal S1x1 .f32) (inb : ∀ a, (![0, 0] : Fin 2 → ℕ) a + (![1, 1] : Fin 2 → ℕ) a ≤ S1x1.size a) :
    View.ld d (Rect.unit (s := S1x1) ![0, 0] ![1, 1] inb) = d :=
  View.ld_unit_zero (by funext a; fin_cases a <;> rfl) inb d

theorem canon_cell (d : Vec Ideal S1x1 .f32) (L : List (View.Piece (Elt Ideal) S1x1 .f32))
    (inb : ∀ a, (![0, 0] : Fin 2 → ℕ) a + (![1, 1] : Fin 2 → ℕ) a ≤ S1x1.size a) :
    View.canon (Val := Elt Ideal) (⟨Rect.unit (s := S1x1) ![0, 0] ![1, 1] inb, d⟩ :: L) = d :=
  View.canon_cons_unit_zero (by funext a; fin_cases a <;> rfl) inb d L

theorem readCov_cell {κ : Kind} {sp : Space} (v : View sig κ sp S1x1 .f32) (d : Vec Ideal S1x1 .f32)
    (inb : ∀ a, (![0, 0] : Fin 2 → ℕ) a + (![1, 1] : Fin 2 → ℕ) a ≤ S1x1.size a) :
    v.readCov (Val := Elt Ideal) [⟨Rect.unit (s := S1x1) ![0, 0] ![1, 1] inb, d⟩]
      (Rect.unit (s := S1x1) ![0, 0] ![1, 1] inb).toLoadRect = d :=
  View.readCov_unit_zero v (by funext a; fin_cases a <;> rfl) inb d

/-- The running sum after the first point: the first block's sum. -/
theorem sum_first (h0 : t.val % 16 = 0) (y : S1x1.Idx) :
    (outsAt0 m c t.val t.isLt).2.2.2.2 y = blockSum (xblk m c t) (wblk m c t) := by
  have h1 : ¬t.val % 16 = 15 := by omega
  rw [outsAt0_A m c t h0 h1]
  dsimp only
  unfold sout0_A_0
  rw [View.read_writes_junk_eq_canon]
  unfold kernelRun0_A
  dsimp only
  sl_unfold_words
  simp only [View.readAt_eq_ld, (hs0_0 t).read_unread, (hs0_1 t).read_unread, ld_table, canon_cell, readCov_cell]
  refine (sum_payload _ _ _ _ _ _).trans ?_
  rw [pay3_apply, zero_add]

/-- The running sum after a later point: what the point before left and this block's sum. -/
theorem sum_next (h0 : ¬t.val % 16 = 0) (y : S1x1.Idx) :
    (outsAt0 m c t.val t.isLt).2.2.2.2 y
      = (outsAt0 m c (t.val - 1) (Nat.lt_of_le_of_lt (Nat.sub_le _ _) t.isLt)).2.2.2.2 y + blockSum (xblk m c t) (wblk m c t) := by
  by_cases h1 : t.val % 16 = 15
  · rw [outsAt0_C m c t h0 h1]
    dsimp only
    unfold sout0_C_0
    rw [View.read_writes_junk_eq_canon]
    unfold kernelRun0_C
    dsimp only
    sl_unfold_words
    simp only [View.readAt_eq_ld, (hs0_0 t).read_unread, (hs0_1 t).read_unread, (Memref.isWhole_whole _).read_unread, ld_table, ld_cell, canon_cell]
    exact sum_payload _ _ _ _ _ _
  · rw [outsAt0_B m c t h0 h1]
    dsimp only
    unfold sout0_B_0
    rw [View.read_writes_junk_eq_canon]
    unfold kernelRun0_B
    dsimp only
    sl_unfold_words
    simp only [View.readAt_eq_ld, (hs0_0 t).read_unread, (hs0_1 t).read_unread, (Memref.isWhole_whole _).read_unread, ld_table, ld_cell, canon_cell]
    exact sum_payload _ _ _ _ _ _

/-- The last point stores the running sum. -/
theorem sum_stored (h1 : t.val % 16 = 15) :
    (outsAt0 m c t.val t.isLt).2.2.2.1 = (outsAt0 m c t.val t.isLt).2.2.2.2 := by
  have h0 : ¬t.val % 16 = 0 := by omega
  rw [outsAt0_C m c t h0 h1]
  dsimp only
  unfold out0_C_5 sout0_C_0
  rw [View.read_writes_junk_eq_canon, View.read_writes_junk_eq_canon]
  unfold kernelRun0_C
  dsimp only
  sl_unfold_words
  simp only [canon_cell, readCov_cell]

end Points

end Cert.Codebook

end
-- ==== Proof.Arrays.lean ====
/-
  The kernel's result arrays after the whole run, as functions of the two arguments: the blocks the 16 points leave,
  each at its place, and the running sum after the last point as one sum over every row of the input.
-/
module

public import proofs.«01_k».proof.Proof.Blocks

@[expose] public section

set_option maxRecDepth 16384

noncomputable section

namespace Cert.Codebook

open Idealize.ShloMosaic Idealize.ShloMosaic.Tactic Idealize.ShloMosaic.TcCoe
open Cert.KernelIdeal Cert.KernelIdeal.Gen

/-! ## The results as functions of the arguments -/

section Results

variable (X : Vec Ideal S4x8192x768 .f32) (W : Vec Ideal S500x768 .f32)

/-- Row `r` of batch `b`. -/
abbrev row (X : Vec Ideal S4x8192x768 .f32) (b : Fin 4) (r : Fin 8192) (c : Fin 768) : EReal := X (ix3 b r c)

/-- The first greatest entry of the table for that row. -/
abbrev rowBest (X : Vec Ideal S4x8192x768 .f32) (W : Vec Ideal S500x768 .f32) (b : Fin 4) (r : Fin 8192) : Fin 500 :=
  best (score (row X b r) (table W))

/-- That row's greatest score. -/
abbrev rowTop (X : Vec Ideal S4x8192x768 .f32) (W : Vec Ideal S500x768 .f32) (b : Fin 4) (r : Fin 8192) : EReal :=
  score (row X b r) (table W) (rowBest X W b r)

/-- The first result: each row plus its entry of the table. -/
def outArr (X : Vec Ideal S4x8192x768 .f32) (W : Vec Ideal S500x768 .f32) : Vec Ideal S4x8192x768 .f32 :=
  fun i => table W (rowBest X W (i 0) (i 1)) (i 2) + row X (i 0) (i 1) (i 2)

/-- The scores of every row. -/
def scoreArr (X : Vec Ideal S4x8192x768 .f32) (W : Vec Ideal S500x768 .f32) : Vec Ideal S4x8192x500 .f32 :=
  fun i => score (row X (i 0) (i 1)) (table W) (i 2)

/-- The positions. -/
def indexArr (X : Vec Ideal S4x8192x768 .f32) (W : Vec Ideal S500x768 .f32) : Vec Ideal S4x8192x1 .i32 :=
  fun i => BitVec.ofNat 32 (rowBest X W (i 0) (i 1)).val

/-- The sum of the greatest scores of every row. -/
def total (X : Vec Ideal S4x8192x768 .f32) (W : Vec Ideal S500x768 .f32) : EReal :=
  ∑ b : Fin 4, ∑ r : Fin 8192, rowTop X W b r

end Results

/-! ## Where a point's blocks lie -/

variable (m : (ℓ : Loc nD τ sig) → Buf (Elt Ideal) ℓ) (c : Dev nD) (t : Fin cfg0.N)

/-- The input. -/
abbrev argX : Vec Ideal S4x8192x768 .f32 := m ((c : Thread nD τ).loc main_arg0)

/-- The table. -/
abbrev argW : Vec Ideal S500x768 .f32 := m ((c : Thread nD τ).loc main_arg1)

theorem point_lt : t.val < 16 := lt_of_lt_of_eq t.isLt (show cfg0.N = 16 from N_0)

/-- The batch point `t` works in. -/
def ptBatch (n : ℕ) (h : n < 16) : Fin 4 := ⟨n / 4, by omega⟩

/-- Row `r` of point `t`'s block, as a row of the batch. -/
def ptRow (n : ℕ) (r : Fin 2048) : Fin 8192 := ⟨n % 4 * 2048 + r.val, by have := r.isLt; omega⟩

theorem index0 : ∀ t : Fin cfg0.N, win0_0.index t = ![t.val / 4, t.val % 4, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![t.val / 4, t.val % 4, 0] :=
  (by decide +kernel : ∀ t : Fin grid0.N, _)
theorem index3 : ∀ t : Fin cfg0.N, win0_3.index t = ![t.val / 4, t.val % 4, 0] :=
  (by decide +kernel : ∀ t : Fin grid0.N, _)
theorem index4 : ∀ t : Fin cfg0.N, win0_4.index t = ![t.val / 4, t.val % 4, 0] :=
  (by decide +kernel : ∀ t : Fin grid0.N, _)
theorem index5 : ∀ t : Fin cfg0.N, win0_5.index t = ![0, 0] :=
  (by decide +kernel : ∀ t : Fin grid0.N, _)

/-- The place in the array of index `(0, r, k)` of a block, from the block's coordinates. -/
theorem place {n : ℕ} (ix : Fin 3 → ℕ) (h : ix = ![t.val / 4, t.val % 4, 0]) (i : (⟨3, ![4, 8192, n]⟩ : Shape).Idx)
    (r : Fin 2048) (k : Fin n) (h0 : (i 0).val = ix 0 * 1 + 1 * 0) (h1 : (i 1).val = ix 1 * 2048 + 1 * r.val)
    (h2 : (i 2).val = ix 2 * n + 1 * k.val) : i = ix3 (ptBatch t.val (point_lt t)) (ptRow t.val r) k := by
  subst h
  funext a
  apply Fin.ext
  fin_cases a
  · refine h0.trans ?_
    show t.val / 4 * 1 + 1 * 0 = t.val / 4
    omega
  · refine h1.trans ?_
    show t.val % 4 * 2048 + 1 * r.val = t.val % 4 * 2048 + r.val
    omega
  · refine h2.trans ?_
    show 0 * n + 1 * k.val = k.val
    omega

theorem xblk_apply (r : Fin 2048) (k : Fin 768) :
    xblk m c t (ix3 0 r k) = argX m c (ix3 (ptBatch t.val (point_lt t)) (ptRow t.val r) k) := by
  show V m c (Pipeline.arrRef spec0 0) (((cfg0.win 0).blk t).view.emb (ix3 0 r k)) = _
  rw [place t (win0_0.index t) (index0 t) (((cfg0.win 0).blk t).view.emb (ix3 0 r k)) r k rfl rfl rfl]
  rfl

theorem wblk_eq : wblk m c t = argW m c := by
  funext y
  show V m c (Pipeline.arrRef spec0 1) (((cfg0.win 1).blk t).view.emb y) = argW m c y
  have h : ((cfg0.win 1).blk t).view.emb y = y := by
    funext a
    apply Fin.ext
    fin_cases a
    · show win0_1.index t (0 : Fin 2) * 500 + 1 * (y 0).val = (y 0).val
      rw [index1]; show 0 * 500 + 1 * (y 0).val = (y 0).val; omega
    · show win0_1.index t (1 : Fin 2) * 768 + 1 * (y 1).val = (y 1).val
      rw [index1]; show 0 * 768 + 1 * (y 1).val = (y 1).val; omega
  rw [h]
  rfl

/-- A point's row is the input's row at its place. -/
theorem blockRow_xblk (r : Fin 2048) :
    blockRow (xblk m c t) r = row (argX m c) (ptBatch t.val (point_lt t)) (ptRow t.val r) :=
  funext fun k => xblk_apply m c t r k

/-! ## The three arrays written block by block -/

/-- The point that writes row `i 1` of batch `i 0`. -/
def ptOf (i0 i1 : ℕ) (h0 : i0 < 4) (h1 : i1 < 8192) : Fin cfg0.N :=
  ⟨4 * i0 + i1 / 2048, lt_of_lt_of_eq (by omega) (show cfg0.N = 16 from N_0).symm⟩

/-- The bounds that say an index of the array lies in its point's block. -/
theorem bounds {n : ℕ} (ix : Fin 3 → ℕ) (i0 i1 i2 : ℕ) (h0 : i0 < 4) (h1 : i1 < 8192) (h2 : i2 < n)
    (h : ix = ![(ptOf i0 i1 h0 h1).val / 4, (ptOf i0 i1 h0 h1).val % 4, 0]) :
    (ix 0 * 1 ≤ i0 ∧ i0 < ix 0 * 1 + 1) ∧ (ix 1 * 2048 ≤ i1 ∧ i1 < ix 1 * 2048 + 2048)
      ∧ (ix 2 * n ≤ i2 ∧ i2 < ix 2 * n + n) := by
  subst h
  show ((4 * i0 + i1 / 2048) / 4 * 1 ≤ i0 ∧ i0 < (4 * i0 + i1 / 2048) / 4 * 1 + 1)
    ∧ ((4 * i0 + i1 / 2048) % 4 * 2048 ≤ i1 ∧ i1 < (4 * i0 + i1 / 2048) % 4 * 2048 + 2048)
    ∧ (0 * n ≤ i2 ∧ i2 < 0 * n + n)
  omega

theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

theorem written2 : (dats m 0 c).flushed 2 t = ((cfg0.win 2).blk t).view.read (Elt Ideal) (outArr (argX m c) (argW m c)) := by
  show (cfg0.win 2).cut (grid0.coords t) ((dats m 0 c).after 2 t) = _
  rw [after0_2, out_at]
  funext y
  show outBlock (xblk m c t) (wblk m c t) y = outArr (argX m c) (argW m c) (((cfg0.win 2).blk t).view.emb y)
  obtain ⟨y0, r, k, rfl⟩ : ∃ (y0 : Fin 1) (r : Fin 2048) (k : Fin 768), y = ix3 y0 r k := ⟨y 0, y 1, y 2, eq_ix3 y⟩
  obtain rfl : y0 = 0 := Subsingleton.elim _ _
  rw [place t (win0_2.index t) (index2 t) (((cfg0.win 2).blk t).view.emb (ix3 0 r k)) r k rfl rfl rfl, wblk_eq]
  show table (argW m c) (best (score (blockRow (xblk m c t) r) (table (argW m c)))) k + blockRow (xblk m c t) r k = _
  rw [blockRow_xblk]
  rfl

theorem written3 : (dats m 0 c).flushed 3 t = ((cfg0.win 3).blk t).view.read (Elt Ideal) (scoreArr (argX m c) (argW m c)) := by
  show (cfg0.win 3).cut (grid0.coords t) ((dats m 0 c).after 3 t) = _
  rw [after0_3, score_at]
  funext y
  show scoreBlock (xblk m c t) (wblk m c t) y = scoreArr (argX m c) (argW m c) (((cfg0.win 3).blk t).view.emb y)
  obtain ⟨y0, r, k, rfl⟩ : ∃ (y0 : Fin 1) (r : Fin 2048) (k : Fin 500), y = ix3 y0 r k := ⟨y 0, y 1, y 2, eq_ix3 y⟩
  obtain rfl : y0 = 0 := Subsingleton.elim _ _
  rw [place t (win0_3.index t) (index3 t) (((cfg0.win 3).blk t).view.emb (ix3 0 r k)) r k rfl rfl rfl, wblk_eq]
  show score (blockRow (xblk m c t) r) (table (argW m c)) k = _
  rw [blockRow_xblk]
  rfl

theorem written4 : (dats m 0 c).flushed 4 t = ((cfg0.win 4).blk t).view.read (Elt Ideal) (indexArr (argX m c) (argW m c)) := by
  show (cfg0.win 4).cut (grid0.coords t) ((dats m 0 c).after 4 t) = _
  rw [after0_4, index_at]
  funext y
  show indexBlock (xblk m c t) (wblk m c t) y = indexArr (argX m c) (argW m c) (((cfg0.win 4).blk t).view.emb y)
  obtain ⟨y0, r, k, rfl⟩ : ∃ (y0 : Fin 1) (r : Fin 2048) (k : Fin 1), y = ix3 y0 r k := ⟨y 0, y 1, y 2, eq_ix3 y⟩
  obtain rfl : y0 = 0 := Subsingleton.elim _ _
  rw [place t (win0_4.index t) (index4 t) (((cfg0.win 4).blk t).view.emb (ix3 0 r k)) r k rfl rfl rfl, wblk_eq]
  show BitVec.ofNat 32 (best (score (blockRow (xblk m c t) r) (table (argW m c)))).val = _
  rw [blockRow_xblk]
  rfl

theorem mem2 (i : S4x8192x768.Idx) :
    i ∈ ((cfg0.win 2).blk t).view.set ↔
      ∀ a : Fin 3, win0_2.index t a * S1x2048x768.size a ≤ (i a).val
        ∧ (i a).val < win0_2.index t a * S1x2048x768.size a + S1x2048x768.size a := by
  show i ∈ ((View.whole main_v0_0).slice (win0_2.rect t)).set ↔ _
  rw [View.set_slice_whole, Rect.mem_set_unit]
  exact Iff.rfl

theorem mem3 (i : S4x8192x500.Idx) :
    i ∈ ((cfg0.win 3).blk t).view.set ↔
      ∀ a : Fin 3, win0_3.index t a * S1x2048x500.size a ≤ (i a).val
        ∧ (i a).val < win0_3.index t a * S1x2048x500.size a + S1x2048x500.size a := by
  show i ∈ ((View.whole main_v0_1).slice (win0_3.rect t)).set ↔ _
  rw [View.set_slice_whole, Rect.mem_set_unit]
  exact Iff.rfl

theorem mem4 (i : S4x8192x1.Idx) :
    i ∈ ((cfg0.win 4).blk t).view.set ↔
      ∀ a : Fin 3, win0_4.index t a * S1x2048x1.size a ≤ (i a).val
        ∧ (i a).val < win0_4.index t a * S1x2048x1.size a + S1x2048x1.size a := by
  show i ∈ ((View.whole main_v0_2).slice (win0_4.rect t)).set ↔ _
  rw [View.set_slice_whole, Rect.mem_set_unit]
  exact Iff.rfl

/-- The first result after the run. -/
theorem final2 : (dats m 0 c).arrAt 2 cfg0.N = outArr (argX m c) (argW m c) :=
  (dats m 0 c).arrAt_eq_of_cover 2 _ (fun t _ => written2 m c t) fun i => by
    have h0 : (i 0).val < 4 := (i 0).isLt
    have h1 : (i 1).val < 8192 := (i 1).isLt
    have h2 : (i 2).val < 768 := (i 2).isLt
    obtain ⟨b0, b1, b2⟩ := bounds _ (i 0).val (i 1).val (i 2).val h0 h1 h2 (index2 (ptOf (i 0).val (i 1).val h0 h1))
    refine ⟨ptOf (i 0).val (i 1).val h0 h1, flush2 _, ?_⟩
    rw [mem2]
    intro a
    match a with
    | ⟨0, _⟩ => exact b0
    | ⟨1, _⟩ => exact b1
    | ⟨2, _⟩ => exact b2

/-- The scores after the run. -/
theorem final3 : (dats m 0 c).arrAt 3 cfg0.N = scoreArr (argX m c) (argW m c) :=
  (dats m 0 c).arrAt_eq_of_cover 3 _ (fun t _ => written3 m c t) fun i => by
    have h0 : (i 0).val < 4 := (i 0).isLt
    have h1 : (i 1).val < 8192 := (i 1).isLt
    have h2 : (i 2).val < 500 := (i 2).isLt
    obtain ⟨b0, b1, b2⟩ := bounds _ (i 0).val (i 1).val (i 2).val h0 h1 h2 (index3 (ptOf (i 0).val (i 1).val h0 h1))
    refine ⟨ptOf (i 0).val (i 1).val h0 h1, flush3 _, ?_⟩
    rw [mem3]
    intro a
    match a with
    | ⟨0, _⟩ => exact b0
    | ⟨1, _⟩ => exact b1
    | ⟨2, _⟩ => exact b2

/-- The positions after the run. -/
theorem final4 : (dats m 0 c).arrAt 4 cfg0.N = indexArr (argX m c) (argW m c) :=
  (dats m 0 c).arrAt_eq_of_cover 4 _ (fun t _ => written4 m c t) fun i => by
    have h0 : (i 0).val < 4 := (i 0).isLt
    have h1 : (i 1).val < 8192 := (i 1).isLt
    have h2 : (i 2).val < 1 := (i 2).isLt
    obtain ⟨b0, b1, b2⟩ := bounds _ (i 0).val (i 1).val (i 2).val h0 h1 h2 (index4 (ptOf (i 0).val (i 1).val h0 h1))
    refine ⟨ptOf (i 0).val (i 1).val h0 h1, flush4 _, ?_⟩
    rw [mem4]
    intro a
    match a with
    | ⟨0, _⟩ => exact b0
    | ⟨1, _⟩ => exact b1
    | ⟨2, _⟩ => exact b2

/-! ## The running sum -/

/-- The sum of the greatest scores of point `n`'s rows; nothing past the grid. -/
def ptSum (n : ℕ) : EReal :=
  if h : n < 16 then ∑ r : Fin 2048, rowTop (argX m c) (argW m c) (ptBatch n h) (ptRow n r) else 0

theorem blockSum_point : blockSum (xblk m c t) (wblk m c t) = ptSum m c t.val := by
  rw [ptSum, dif_pos (point_lt t), wblk_eq]
  refine Finset.sum_congr rfl fun r _ => ?_
  show score (blockRow (xblk m c t) r) (table (argW m c)) (best (score (blockRow (xblk m c t) r) (table (argW m c)))) = _
  rw [blockRow_xblk]

/-- After point `n` the running sum is the sum over the points so far. -/
theorem running (n : ℕ) (hn : n < cfg0.N) (y : S1x1.Idx) :
    (outsAt0 m c n hn).2.2.2.2 y = ∑ k ∈ Finset.range (n + 1), ptSum m c k := by
  induction n with
  | zero =>
    rw [Finset.sum_range_one]
    exact (sum_first m c ⟨0, hn⟩ rfl y).trans (blockSum_point m c ⟨0, hn⟩)
  | succ n ih =>
    have hlt : n + 1 < 16 := lt_of_lt_of_eq hn (show cfg0.N = 16 from N_0)
    rw [Finset.sum_range_succ, ← ih (Nat.lt_of_succ_lt hn), ← blockSum_point m c ⟨n + 1, hn⟩]
    exact sum_next m c ⟨n + 1, hn⟩ (by show ¬(n + 1) % 16 = 0; omega) y

/-- A sum over a product of extents is a sum of sums. -/
theorem sum_grid (a b : ℕ) (f : Fin (a * b) → EReal) :
    ∑ i : Fin (a * b), f i = ∑ p : Fin a, ∑ q : Fin b, f (finProdFinEquiv (p, q)) := by
  rw [← Fintype.sum_prod_type' (f := fun p q => f (finProdFinEquiv (p, q)))]
  exact (Equiv.sum_comp finProdFinEquiv f).symm

/-- All points together meet every row once. -/
theorem sum_points : ∑ k ∈ Finset.range 16, ptSum m c k = total (argX m c) (argW m c) := by
  rw [Finset.sum_range, total]
  refine (sum_grid 4 4 fun i => ptSum m c i.val).trans ?_
  refine Finset.sum_congr rfl fun b _ => ?_
  refine Eq.trans ?_ (sum_grid 4 2048 fun r => rowTop (argX m c) (argW m c) b r).symm
  refine Finset.sum_congr rfl fun q _ => ?_
  have hv : (finProdFinEquiv (b, q)).val = q.val + 4 * b.val := rfl
  have hb := b.isLt
  have hq := q.isLt
  show ptSum m c (finProdFinEquiv (b, q)).val = _
  rw [hv, ptSum, dif_pos (by omega)]
  refine Finset.sum_congr rfl fun r _ => ?_
  have e0 : ptBatch (q.val + 4 * b.val) (by omega) = b := Fin.ext (by show (q.val + 4 * b.val) / 4 = b.val; omega)
  have e1 : ptRow (q.val + 4 * b.val) r = finProdFinEquiv (q, r) :=
    Fin.ext (by show (q.val + 4 * b.val) % 4 * 2048 + r.val = r.val + 2048 * q.val; omega)
  rw [e0, e1]

theorem mem5 (i : S1x1.Idx) :
    i ∈ ((cfg0.win 5).blk t).view.set ↔
      ∀ a : Fin 2, win0_5.index t a * S1x1.size a ≤ (i a).val
        ∧ (i a).val < win0_5.index t a * S1x1.size a + S1x1.size a := by
  show i ∈ ((View.whole main_v0_3).slice (win0_5.rect t)).set ↔ _
  rw [View.set_slice_whole, Rect.mem_set_unit]
  exact Iff.rfl

/-- The stored sum after the run: the sum over every row. -/
theorem final5 : (dats m 0 c).arrAt 5 cfg0.N = fun _ => total (argX m c) (argW m c) := by
  refine (dats m 0 c).arrAt_eq_of_cover 5 _ (fun t hf => ?_) fun i => ?_
  · have hm : t.val % 16 = 15 := (flush0_5 t).mp hf
    have hlt := point_lt t
    have ht : t.val = 15 := by omega
    show (cfg0.win 5).cut (grid0.coords t) ((dats m 0 c).after 5 t) = _
    rw [after0_5, sum_stored m c t hm]
    funext y
    show (outsAt0 m c t.val t.isLt).2.2.2.2 y = total (argX m c) (argW m c)
    rw [running m c t.val t.isLt y, ht]
    exact sum_points m c
  · have h0 : (i 0).val < 1 := (i 0).isLt
    have h1 : (i 1).val < 1 := (i 1).isLt
    refine ⟨⟨15, lt_of_lt_of_eq (by decide) (show cfg0.N = 16 from N_0).symm⟩, (flush0_5 _).mpr rfl, ?_⟩
    rw [mem5, index5]
    intro a
    match a with
    | ⟨0, _⟩ => exact ⟨Nat.zero_le _, by show (i 0).val < 0 * 1 + 1; omega⟩
    | ⟨1, _⟩ => exact ⟨Nat.zero_le _, by show (i 1).val < 0 * 1 + 1; omega⟩

end Cert.Codebook

end
-- ==== Proof.KernelRun.lean ====
/-
  The kernel's run: from any memory with the counters at zero, every run ends with the four results at the functions of
  the arguments `Arrays.lean` names, the fourth of the kernel's arrays divided by four, and the arguments unchanged.
-/
module

public import proofs.«01_k».proof.Proof.Arrays

@[expose] public section

set_option maxRecDepth 16384

noncomputable section

namespace Cert.Codebook

open Idealize.ShloMosaic Idealize.ShloMosaic.Tactic Idealize.ShloMosaic.TcCoe Idealize.SL.Sem
open Cert.KernelIdeal Cert.KernelIdeal.Gen

/-- The sum divided by the number of batches. -/
def meanArr (X : Vec Ideal S4x8192x768 .f32) (W : Vec Ideal S500x768 .f32) : Vec Ideal S_ .f32 :=
  fun _ => FloatOps.hostDivf (F := Ideal) (φ := .f32) (total X W) (FloatOps.ofBits .f32 0x40800000#32)

variable (m : (ℓ : Loc nD τ sig) → Buf (Elt Ideal) ℓ) (c : Dev nD)

/-- What the lines after the kernel leave in the last result. -/
theorem after_mean :
    Pipeline.afterTail₀ cfgs (dats m) 0 (V0 m) [hostOps1] c main_v2 = meanArr (argX m c) (argW m c) := by
  have h5 : Pipeline.withArrays (cfgs 0).spec c (V0 m c) (fun w => (dats m 0 c).arrAt w (cfgs 0).N)
      (Proc.devRef .tc main_v0_3) = fun _ => total (argX m c) (argW m c) :=
    (Pipeline.withArrays_arr (cfgs 0).spec winFacts0.arr_inj c (V0 m c) _ 5).trans (final5 m c)
  unfold Pipeline.afterTail₀
  simp only [List.flatten_cons, List.flatten_nil, List.append_nil, hostOps1]
  after_results
  rw [h5]
  rfl

/-- Every run ends with the results the functions of the arguments, and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = outArr (argX m c) (argW m c)
      ∧ r.2.mem ((c.tc : Thread nD τ).loc main_v2) = meanArr (argX m c) (argW m c)
      ∧ r.2.mem ((c.tc : Thread nD τ).loc main_v0_1) = scoreArr (argX m c) (argW m c)
      ∧ r.2.mem ((c.tc : Thread nD τ).loc main_v0_2) = indexArr (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans (final2 m c),
     ((h c).2 main_v2 (by decide)).trans (after_mean m c),
     ((h c).1 3).trans (final3 m c),
     ((h c).1 4).trans (final4 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Codebook

end
-- ==== Proof.Reference.lean ====
/-
  The reference's four results as the same functions of the arguments as the kernel's: its scores, the position of each
  row's first greatest score, the rows plus their entries of the table, and the mean of the greatest scores.
-/
module

public import proofs.«01_k».proof.Proof.TopEntry
public import proofs.«01_k».proof.Proof.KernelRun

@[expose] public section

set_option maxRecDepth 16384

noncomputable section

namespace Cert.Codebook

open Idealize.ShloMosaic Idealize.ShloMosaic.Tactic Idealize.ShloMosaic.TcCoe Idealize.SL.Sem
open Cert.ReferenceIdeal Cert.ReferenceIdeal.Read

variable (X : Vec Ideal S4x8192x768 .f32) (W : Vec Ideal S500x768 .f32)

/-! ## The normalised arguments and the scores -/

/-- The normalised table. -/
theorem ref_table (k : Fin 500) (c : Fin 768) : val_main_v7 (F := Ideal) W (ix2 k c) = unitRow (table W k) c := by
  rw [val_main_v7_apply, val_main_v6_apply, val_main_v5_apply, val_main_v4_apply, val_main_v3_apply, val_main_v2_apply,
    val_main_v1_apply, val_main_cst_apply, val_main_cst_0_apply]
  show W (ix2 k c) * Ideal.rsqrt (max (Ideal.ofBits .f32 0x00000000#32 + _) _) = _
  rw [Ideal.ofBits_zero_f32, zero_add]
  unfold unitRow
  refine congrArg (fun z => W (ix2 k c) * Ideal.rsqrt (max z _)) (Finset.sum_congr rfl fun j _ => ?_)
  have h : idx_main_v1 (idx_main_v2 (idx_main_v6 (ix2 k c))) j = ix2 k j := by
    funext a
    match a with
    | ⟨0, _⟩ => rfl
    | ⟨1, _⟩ => rfl
  rw [h]
  rfl

/-- The normalised rows. -/
theorem ref_row (b : Fin 4) (r : Fin 8192) (c : Fin 768) :
    val_main_v15 (F := Ideal) X (ix3 b r c) = unitRow (row X b r) c := by
  rw [val_main_v15_apply, val_main_v14_apply, val_main_v13_apply, val_main_v12_apply, val_main_v11_apply,
    val_main_v10_apply, val_main_v9_apply, val_main_cst_1_apply, val_main_cst_2_apply]
  show X (ix3 b r c) * Ideal.rsqrt (max (Ideal.ofBits .f32 0x00000000#32 + _) _) = _
  rw [Ideal.ofBits_zero_f32, zero_add]
  unfold unitRow
  refine congrArg (fun z => X (ix3 b r c) * Ideal.rsqrt (max z _)) (Finset.sum_congr rfl fun j _ => ?_)
  have h : idx_main_v9 (idx_main_v10 (idx_main_v14 (ix3 b r c))) j = ix3 b r j := by
    funext a
    match a with
    | ⟨0, _⟩ => rfl
    | ⟨1, _⟩ => rfl
    | ⟨2, _⟩ => rfl
  rw [h]
  rfl

/-- The scores. -/
theorem ref_score (b : Fin 4) (r : Fin 8192) (k : Fin 500) :
    val_main_v16 (F := Ideal) X W (ix3 b r k) = score (row X b r) (table W) k := by
  rw [val_main_v16_apply]
  unfold score
  refine Finset.sum_congr rfl fun c _ => ?_
  have hl : lidx_main_v16 (ix3 b r k) c = ix3 b r c := by
    funext a
    match a with
    | ⟨0, _⟩ => rfl
    | ⟨1, _⟩ => rfl
    | ⟨2, _⟩ => rfl
  have hr : ridx_main_v16 (ix3 b r k) c = ix2 k c := by
    funext a
    match a with
    | ⟨0, _⟩ => rfl
    | ⟨1, _⟩ => rfl
  rw [hl, hr, ref_row, ref_table]

/-- The positions. -/
theorem ref_index (b : Fin 4) (r : Fin 8192) (q : Fin 1) :
    val_main_indices (F := Ideal) X W (ix3 b r q) = BitVec.ofNat 32 (rowBest X W b r).val := by
  unfold val_main_indices
  rw [topK_index]
  exact congrArg (fun s => BitVec.ofNat 32 (best s).val) (funext fun k => ref_score X W b r k)

/-! ## The looked-up entries -/

/-- The position the first look-up takes. -/
theorem ref_start (b : Fin 4) (r : Fin 8192) (q z : Fin 1) :
    val_main_v30 (F := Ideal) X W (ix4 b r q z) = BitVec.ofNat 32 (rowBest X W b r).val := by
  rw [val_main_v30_apply, val_main_v29_apply, val_main_v26_apply, val_main_v25_apply, val_main_c_4_apply]
  have h : idx_main_v30 (ix4 b r q z) = ix3 b r (0 : Fin 1) := by
    funext a
    match a with
    | ⟨0, _⟩ => rfl
    | ⟨1, _⟩ => rfl
    | ⟨2, _⟩ => rfl
  rw [h, ref_index]
  exact wrap_position _ _

/-- The position the second look-up takes. -/
theorem ref_start' (b : Fin 4) (r : Fin 8192) (q z : Fin 1) :
    val_main_v38 (F := Ideal) X W (ix4 b r q z) = BitVec.ofNat 32 (rowBest X W b r).val := by
  rw [val_main_v38_apply, val_main_v37_apply, val_main_v34_apply, val_main_v33_apply, val_main_c_6_apply]
  have h : idx_main_v38 (ix4 b r q z) = ix3 b r (0 : Fin 1) := by
    funext a
    match a with
    | ⟨0, _⟩ => rfl
    | ⟨1, _⟩ => rfl
    | ⟨2, _⟩ => rfl
  rw [h, ref_index]
  exact wrap_position _ _

/-- The entry of the table looked up for a row. -/
theorem ref_entry (b : Fin 4) (r : Fin 8192) (q : Fin 1) (c : Fin 768) :
    val_main_v31 (F := Ideal) X W (ix4 b r q c) = table W (rowBest X W b r) c := by
  unfold val_main_v31
  exact gather_row W _ b r q c _ (ref_start X W b r q 0)

/-- The normalised entry looked up for a row. -/
theorem ref_unit_entry (b : Fin 4) (r : Fin 8192) (q : Fin 1) (c : Fin 768) :
    val_main_v39 (F := Ideal) X W (ix4 b r q c) = unitRow (table W (rowBest X W b r)) c := by
  unfold val_main_v39
  rw [gather_row _ _ b r q c _ (ref_start' X W b r q 0), ref_table]

/-! ## The results -/

/-- The first result. -/
theorem ref_out : val_main_v44 (F := Ideal) X W = outArr X W := by
  funext i
  obtain ⟨b, r, c, rfl⟩ : ∃ b r c, i = ix3 b r c := ⟨i 0, i 1, i 2, eq_ix3 i⟩
  rw [val_main_v44_apply, val_main_v32_apply]
  have hb : b.val < 4 := b.isLt
  have hr : r.val < 8192 := r.isLt
  have hc : c.val < 768 := c.isLt
  have h : idx_main_v32 (ix3 b r c) = ix4 b r (0 : Fin 1) c := by
    funext a
    apply Fin.ext
    match a with
    | ⟨0, _⟩ => show ((b.val * 8192 + r.val) * 768 + c.val) / 6291456 = b.val; omega
    | ⟨1, _⟩ => show ((b.val * 8192 + r.val) * 768 + c.val) / 768 % 8192 = r.val; omega
    | ⟨2, _⟩ => rfl
    | ⟨3, _⟩ => show ((b.val * 8192 + r.val) * 768 + c.val) % 768 = c.val; omega
  rw [h, ref_entry]
  rfl

/-- The scores' array. -/
theorem ref_scores : val_main_v16 (F := Ideal) X W = scoreArr X W := by
  funext i
  obtain ⟨b, r, k, rfl⟩ : ∃ b r k, i = ix3 b r k := ⟨i 0, i 1, i 2, eq_ix3 i⟩
  exact ref_score X W b r k

/-- The positions' array. -/
theorem ref_indices : val_main_indices (F := Ideal) X W = indexArr X W := by
  funext i
  obtain ⟨b, r, q, rfl⟩ : ∃ b r q, i = ix3 b r q := ⟨i 0, i 1, i 2, eq_ix3 i⟩
  exact ref_index X W b r q

/-- One product of the sum the mean is taken of. -/
theorem ref_product (b : Fin 4) (r : Fin 8192) (q : Fin 1) (c : Fin 768) :
    val_main_v41 (F := Ideal) X W (ix4 b r q c)
      = unitRow (row X b r) c * unitRow (table W (rowBest X W b r)) c := by
  rw [val_main_v41_apply, val_main_v40_apply, ref_unit_entry]
  have h : idx_main_v40 (ix4 b r q c) = ix3 b r c := by
    funext a
    match a with
    | ⟨0, _⟩ => rfl
    | ⟨1, _⟩ => rfl
    | ⟨2, _⟩ => rfl
  rw [h, ref_row]
  exact mul_comm _ _

/-- A sum over the rank-four indices with one index on the third axis, of a function given by its coordinates. -/
theorem sum_products (f : (⟨4, ![4, 8192, 1, 768]⟩ : Shape).Idx → EReal) (g : Fin 4 → Fin 8192 → Fin 768 → EReal)
    (h : ∀ b r q c, f (ix4 b r q c) = g b r c) : ∑ j, f j = ∑ b, ∑ r, ∑ c, g b r c := by
  rw [sum_idx4]
  refine Finset.sum_congr rfl fun b _ => Finset.sum_congr rfl fun r _ => ?_
  rw [Fin.sum_univ_one]
  exact Finset.sum_congr rfl fun c _ => h b r 0 c

/-- The sum of every product is the sum of the greatest scores. -/
theorem ref_total (i : S_.Idx) : val_main_v42 (F := Ideal) X W i = total X W := by
  rw [val_main_v42_apply, val_main_cst_8_apply]
  show Ideal.ofBits .f32 0x00000000#32 + _ = _
  rw [Ideal.ofBits_zero_f32, zero_add]
  exact sum_products _ (fun b r c => unitRow (row X b r) c * unitRow (table W (rowBest X W b r)) c)
    fun b r q c => ref_product X W b r q c

/-- The mean. -/
theorem ref_mean : val_main_v43 (F := Ideal) X W = meanArr X W := by
  funext i
  rw [val_main_v43_apply, ref_total, val_main_cst_9_apply]
  rfl

/-- Every run ends with the results those functions of the arguments, and the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
          = outArr (m ((c.tc : Thread nD τ).loc main_arg0)) (m ((c.tc : Thread nD τ).loc main_arg1))
      ∧ r.2.mem ((c.tc : Thread nD τ).loc main_v43)
          = meanArr (m ((c.tc : Thread nD τ).loc main_arg0)) (m ((c.tc : Thread nD τ).loc main_arg1))
      ∧ r.2.mem ((c.tc : Thread nD τ).loc main_v16)
          = scoreArr (m ((c.tc : Thread nD τ).loc main_arg0)) (m ((c.tc : Thread nD τ).loc main_arg1))
      ∧ r.2.mem ((c.tc : Thread nD τ).loc main_indices)
          = indexArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1.trans ((val_main_v44_eq _ _).trans (ref_out _ _)),
     (h c).2.1.trans ((val_main_v43_eq m c).trans (ref_mean _ _)),
     (h c).2.2.1.trans ((val_main_v16_eq _ _).trans (ref_scores _ _)),
     (h c).2.2.2.1.trans ((val_main_indices_eq _ _).trans (ref_indices _ _)),
     (h c).2.2.2.2⟩)
    (Cert.ReferenceIdeal.Value.run (F := Ideal) m ρ)

end Cert.Codebook

end
-- ==== Proof.lean ====
/-
  The certificate. The kernel's launch ends with its arguments as they were and every counter at zero, as printed and over
  the extended reals, and so does the reference: the launch's frames are the generated ones, the reference's is read off
  its generated run. Over the extended reals the kernel and the reference end with equal results: both are the functions of
  the arguments that `Proof/Arrays.lean` and `Proof/KernelRun.lean` name.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments alone; its program has no counter, so all of them are at zero. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- From memories that agree on the arguments, the kernel and the reference end with equal results. -/
theorem equal_results : Cert.algebraic_KernelIdeal_ReferenceIdeal := by
  intro m g m' g' _ hargs
  refine ⟨_, _, _, _, Cert.Codebook.kernel_run m g, (θ_run Cert.ReferenceIdeal.defs _ _).mono (fun r h c => ?_)
    (Cert.Codebook.reference_run m' g')⟩
  obtain ⟨h0, h1, h2, h3, hrest⟩ := h c
  rw [(hargs c).1, (hargs c).2] at h0 h1 h2 h3
  exact ⟨h0, h1, h2, h3, hrest⟩

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    equal_results⟩

end Cert.Proof

end
